-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_rois [hPre_unit_rois : Cert.Pre_unit_rois.Facts] (m : (ℓ : Loc Cert.KernelIdeal.nD Cert.KernelIdeal.τ Cert.KernelIdeal.sig) → Buf (Elt Ideal) ℓ) : Prop :=
  ∀ c : Dev Cert.KernelIdeal.nD,
    (Cert.Pre_unit_rois.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_rois [hPre_unit_rois : Cert.Pre_unit_rois.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_rois.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_rois [hKernelIdeal : Cert.KernelIdeal.Facts] [hPre_unit_rois : Cert.Pre_unit_rois.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_rois m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_rois [hReferenceIdeal : Cert.ReferenceIdeal.Facts] [hPre_unit_rois : Cert.Pre_unit_rois.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_rois m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unit_rois [hKernelIdeal : Cert.KernelIdeal.Facts] [hReferenceIdeal : Cert.ReferenceIdeal.Facts] [hPre_unit_rois : Cert.Pre_unit_rois.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_rois m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_rois : Cert.Pre_unit_rois.Facts),
    quiescent_Kernel (hKernel := hKernel)
    ∧ quiescent_KernelIdeal (hKernelIdeal := hKernelIdeal)
    ∧ quiescent_KernelIdeal_pre_unit_rois (hKernelIdeal := hKernelIdeal) (hPre_unit_rois := hPre_unit_rois)
    ∧ quiescent_ReferenceIdeal (hReferenceIdeal := hReferenceIdeal)
    ∧ quiescent_ReferenceIdeal_pre_unit_rois (hReferenceIdeal := hReferenceIdeal) (hPre_unit_rois := hPre_unit_rois)
    ∧ preserves_Kernel_KernelIdeal
    ∧ algebraic_KernelIdeal_ReferenceIdeal_pre_unit_rois (hKernelIdeal := hKernelIdeal) (hReferenceIdeal := hReferenceIdeal) (hPre_unit_rois := hPre_unit_rois)
-- ==== Pre_unit_rois.lean ====
abbrev S1x256x64x64 : Shape := ⟨4, ![1, 256, 64, 64]⟩
abbrev S5000x4 : Shape := ⟨2, ![5000, 4]⟩
abbrev S_ : Shape := ⟨0, ![]⟩

class Facts : Prop where
  bcast_S_S5000x4 : S_.BroadcastsInDim S5000x4 (![] : Fin 0 → Fin S5000x4.rank)
  reducesTo_S5000x4_S_d0_1 : S5000x4.ReducesTo [0, 1] S_
  h_S_ : 0 < S_.numel

variable [Facts]

def fn {F : FTy → Type} [FloatOps F] (main_arg0 : FVec F S1x256x64x64 .f32) (main_arg1 : FVec F S5000x4 .f32) : IVec S_ 1 :=
  let main_cst : FVec F S_ .f32 := constant S_ .f32 0x00000000#32
  let main_v0 : FVec F S5000x4 .f32 := broadcastInDim S5000x4 ![] bcast_S_S5000x4 main_cst
  let main_v1 : IVec S5000x4 1 := cmpf .oge main_arg1 main_v0
  let main_cst_0 : FVec F S_ .f32 := constant S_ .f32 0x3F800000#32
  let main_v2 : FVec F S5000x4 .f32 := broadcastInDim S5000x4 ![] bcast_S_S5000x4 main_cst_0
  let main_v3 : IVec S5000x4 1 := cmpf .olt main_arg1 main_v2
  let main_v4 : IVec S5000x4 1 := andi main_v1 main_v3
  let main_c : IVec S_ 1 := constantI S_ 1 1#1
  let main_v5 : IVec S_ 1 := (fun x v => Host.reduce IntOp.andi x v reducesTo_S5000x4_S_d0_1 h_S_) main_v4 main_c
  main_v5
-- ==== Kernel.lean ====
abbrev S1x256x64x64 : Shape := ⟨4, ![1, 256, 64, 64]⟩
abbrev S5000x4 : Shape := ⟨2, ![5000, 4]⟩
abbrev S256x64x64 : Shape := ⟨3, ![256, 64, 64]⟩
abbrev S256x4096 : Shape := ⟨2, ![256, 4096]⟩
abbrev S5000x256x49 : Shape := ⟨3, ![5000, 256, 49]⟩
abbrev S40x4 : Shape := ⟨2, ![40, 4]⟩
abbrev S40x256x49 : Shape := ⟨3, ![40, 256, 49]⟩
abbrev S40x1 : Shape := ⟨2, ![40, 1]⟩
abbrev S1x49 : Shape := ⟨2, ![1, 49]⟩
abbrev S40x49 : Shape := ⟨2, ![40, 49]⟩
abbrev S40x1x49 : Shape := ⟨3, ![40, 1, 49]⟩
abbrev S256x1 : Shape := ⟨2, ![256, 1]⟩
abbrev S1x256x1 : Shape := ⟨3, ![1, 256, 1]⟩
abbrev S5000x256x7x7 : Shape := ⟨4, ![5000, 256, 7, 7]⟩

abbrev nBuf : Space → Nat
  | .hbm => 6
  | .vmem => 5
  | .smem => 0
  | _ => 0

abbrev bufTy : (tb : Table) → Fin (tcTables nBuf tb) → BufTy
  | .hbm, ⟨0, _⟩ => ⟨S1x256x64x64, .f32⟩
  | .hbm, ⟨1, _⟩ => ⟨S5000x4, .f32⟩
  | .hbm, ⟨2, _⟩ => ⟨S256x64x64, .f32⟩
  | .hbm, ⟨3, _⟩ => ⟨S256x4096, .f32⟩
  | .hbm, ⟨4, _⟩ => ⟨S5000x256x49, .f32⟩
  | .hbm, ⟨5, _⟩ => ⟨S5000x256x7x7, .f32⟩
  | .local _ .vmem, ⟨0, _⟩ => ⟨S40x4, .f32⟩
  | .local _ .vmem, ⟨1, _⟩ => ⟨S40x4, .f32⟩
  | .local _ .vmem, ⟨2, _⟩ => ⟨S256x4096, .f32⟩
  | .local _ .vmem, ⟨3, _⟩ => ⟨S40x256x49, .f32⟩
  | .local _ .vmem, ⟨4, _⟩ => ⟨S40x256x49, .f32⟩
  | _, _ => ⟨S1x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S40x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S40x256x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x256x64x64 : Shape := ⟨4, ![1, 256, 64, 64]⟩
abbrev S5000x4 : Shape := ⟨2, ![5000, 4]⟩
abbrev S256x64x64 : Shape := ⟨3, ![256, 64, 64]⟩
abbrev S256x4096 : Shape := ⟨2, ![256, 4096]⟩
abbrev S5000x1 : Shape := ⟨2, ![5000, 1]⟩
abbrev S5000 : Shape := ⟨1, ![5000]⟩
abbrev S_ : Shape := ⟨0, ![]⟩
abbrev S7 : Shape := ⟨1, ![7]⟩
abbrev S1x7 : Shape := ⟨2, ![1, 7]⟩
abbrev S5000x7 : Shape := ⟨2, ![5000, 7]⟩
abbrev S5000x7x1 : Shape := ⟨3, ![5000, 7, 1]⟩
abbrev S5000x7x7 : Shape := ⟨3, ![5000, 7, 7]⟩
abbrev S5000x1x7 : Shape := ⟨3, ![5000, 1, 7]⟩
abbrev S5000x7x7x1 : Shape := ⟨4, ![5000, 7, 7, 1]⟩
abbrev S1 : Shape := ⟨1, ![1]⟩
abbrev S1x1x1x1 : Shape := ⟨4, ![1, 1, 1, 1]⟩
abbrev S256x5000x7x7 : Shape := ⟨4, ![256, 5000, 7, 7]⟩
abbrev S1x5000x7x7 : Shape := ⟨4, ![1, 5000, 7, 7]⟩
abbrev S5000x256x7x7 : Shape := ⟨4, ![5000, 256, 7, 7]⟩

abbrev nBuf : Space → Nat
  | .hbm => 270
  | .vmem => 0
  | .smem => 0
  | _ => 0

abbrev hbmTy0_0 (i : Nat) : BufTy := match i % 128 with
  | 0 => ⟨S1x256x64x64, .f32⟩
  | 1 => ⟨S5000x4, .f32⟩
  | 2 => ⟨S256x64x64, .f32⟩
  | 3 => ⟨S256x4096, .f32⟩
  | 4 => ⟨S5000x1, .f32⟩
  | 5 => ⟨S5000, .f32⟩
  | 6 => ⟨S_, .f32⟩
  | 7 => ⟨S5000, .f32⟩
  | 8 => ⟨S5000, .f32⟩
  | 9 => ⟨S5000x1, .f32⟩
  | 10 => ⟨S5000, .f32⟩
  | 11 => ⟨S_, .f32⟩
  | 12 => ⟨S5000, .f32⟩
  | 13 => ⟨S5000, .f32⟩
  | 14 => ⟨S5000x1, .f32⟩
  | 15 => ⟨S5000, .f32⟩
  | 16 => ⟨S_, .f32⟩
  | 17 => ⟨S5000, .f32⟩
  | 18 => ⟨S5000, .f32⟩
  | 19 => ⟨S5000x1, .f32⟩
  | 20 => ⟨S5000, .f32⟩
  | 21 => ⟨S_, .f32⟩
  | 22 => ⟨S5000, .f32⟩
  | 23 => ⟨S5000, .f32⟩
  | 24 => ⟨S5000, .f32⟩
  | 25 => ⟨S_, .f32⟩
  | 26 => ⟨S5000, .f32⟩
  | 27 => ⟨S5000, .f32⟩
  | 28 => ⟨S5000, .f32⟩
  | 29 => ⟨S_, .f32⟩
  | 30 => ⟨S5000, .f32⟩
  | 31 => ⟨S5000, .f32⟩
  | 32 => ⟨S_, .f32⟩
  | 33 => ⟨S5000, .f32⟩
  | 34 => ⟨S5000, .f32⟩
  | 35 => ⟨S_, .f32⟩
  | 36 => ⟨S5000, .f32⟩
  | 37 => ⟨S5000, .f32⟩
  | 38 => ⟨S7, .f32⟩
  | 39 => ⟨S5000x1, .f32⟩
  | 40 => ⟨S1x7, .f32⟩
  | 41 => ⟨S_, .f32⟩
  | 42 => ⟨S1x7, .f32⟩
  | 43 => ⟨S1x7, .f32⟩
  | 44 => ⟨S5000x1, .f32⟩
  | 45 => ⟨S5000x7, .f32⟩
  | 46 => ⟨S5000x7, .f32⟩
  | 47 => ⟨S5000x7, .f32⟩
  | 48 => ⟨S5000x7, .f32⟩
  | 49 => ⟨S5000x7, .f32⟩
  | 50 => ⟨S5000x1, .f32⟩
  | 51 => ⟨S1x7, .f32⟩
  | 52 => ⟨S_, .f32⟩
  | 53 => ⟨S1x7, .f32⟩
  | 54 => ⟨S1x7, .f32⟩
  | 55 => ⟨S5000x1, .f32⟩
  | 56 => ⟨S5000x7, .f32⟩
  | 57 => ⟨S5000x7, .f32⟩
  | 58 => ⟨S5000x7, .f32⟩
  | 59 => ⟨S5000x7, .f32⟩
  | 60 => ⟨S5000x7, .f32⟩
  | 61 => ⟨S5000x7x1, .f32⟩
  | 62 => ⟨S5000x7x7, .f32⟩
  | 63 => ⟨S5000x1x7, .f32⟩
  | 64 => ⟨S5000x7x7, .f32⟩
  | 65 => ⟨S_, .f32⟩
  | 66 => ⟨S5000x7x7, .f32⟩
  | 67 => ⟨S5000x7x7, .i1⟩
  | 68 => ⟨S_, .f32⟩
  | 69 => ⟨S5000x7x7, .f32⟩
  | 70 => ⟨S5000x7x7, .i1⟩
  | 71 => ⟨S5000x7x7, .i1⟩
  | 72 => ⟨S_, .f32⟩
  | 73 => ⟨S5000x7x7, .f32⟩
  | 74 => ⟨S5000x7x7, .i1⟩
  | 75 => ⟨S5000x7x7, .i1⟩
  | 76 => ⟨S_, .f32⟩
  | 77 => ⟨S5000x7x7, .f32⟩
  | 78 => ⟨S5000x7x7, .i1⟩
  | 79 => ⟨S5000x7x7, .i1⟩
  | 80 => ⟨S5000x7x7, .f32⟩
  | 81 => ⟨S_, .f32⟩
  | 82 => ⟨S_, .f32⟩
  | 83 => ⟨S5000x7x7, .f32⟩
  | 84 => ⟨S5000x7x7, .f32⟩
  | 85 => ⟨S_, .f32⟩
  | 86 => ⟨S_, .f32⟩
  | 87 => ⟨S5000x7x7, .f32⟩
  | 88 => ⟨S5000x7x7, .f32⟩
  | 89 => ⟨S5000x7x7, .f32⟩
  | 90 => ⟨S5000x7x7, .i32⟩
  | 91 => ⟨S5000x7x7, .f32⟩
  | 92 => ⟨S5000x7x7, .i32⟩
  | 93 => ⟨S_, .i32⟩
  | 94 => ⟨S5000x7x7, .i32⟩
  | 95 => ⟨S5000x7x7, .i1⟩
  | 96 => ⟨S_, .i32⟩
  | 97 => ⟨S5000x7x7, .i32⟩
  | 98 => ⟨S5000x7x7, .i1⟩
  | 99 => ⟨S_, .i32⟩
  | 100 => ⟨S_, .i32⟩
  | 101 => ⟨S5000x7x7, .i32⟩
  | 102 => ⟨S5000x7x7, .i32⟩
  | 103 => ⟨S_, .i32⟩
  | 104 => ⟨S_, .i32⟩
  | 105 => ⟨S5000x7x7, .i32⟩
  | 106 => ⟨S5000x7x7, .i32⟩
  | 107 => ⟨S_, .i32⟩
  | 108 => ⟨S5000x7x7, .i32⟩
  | 109 => ⟨S5000x7x7, .i32⟩
  | 110 => ⟨S_, .i32⟩
  | 111 => ⟨S_, .i32⟩
  | 112 => ⟨S5000x7x7, .i32⟩
  | 113 => ⟨S5000x7x7, .i32⟩
  | 114 => ⟨S_, .i32⟩
  | 115 => ⟨S5000x7x7, .i32⟩
  | 116 => ⟨S5000x7x7, .i32⟩
  | 117 => ⟨S_, .i32⟩
  | 118 => ⟨S_, .i32⟩
  | 119 => ⟨S5000x7x7, .i32⟩
  | 120 => ⟨S5000x7x7, .i32⟩
  | 121 => ⟨S5000x7x7, .f32⟩
  | 122 => ⟨S5000x7x7, .f32⟩
  | 123 => ⟨S5000x7x7, .f32⟩
  | 124 => ⟨S5000x7x7, .f32⟩
  | 125 => ⟨S5000x7x7, .f32⟩
  | 126 => ⟨S5000x7x7, .f32⟩
  | 127 => ⟨S5000x7x7, .f32⟩
  | _ => ⟨S1x256x64x64, .f32⟩

abbrev hbmTy0_1 (i : Nat) : BufTy := match i % 128 with
  | 0 => ⟨S5000x7x7, .f32⟩
  | 1 => ⟨S_, .f32⟩
  | 2 => ⟨S5000x7x7, .f32⟩
  | 3 => ⟨S5000x7x7, .f32⟩
  | 4 => ⟨S_, .f32⟩
  | 5 => ⟨S5000x7x7, .f32⟩
  | 6 => ⟨S5000x7x7, .f32⟩
  | 7 => ⟨S5000x7x7, .f32⟩
  | 8 => ⟨S5000x7x7, .f32⟩
  | 9 => ⟨S5000x7x7, .f32⟩
  | 10 => ⟨S5000x7x7, .f32⟩
  | 11 => ⟨S5000x7x7, .f32⟩
  | 12 => ⟨S5000x7x7, .f32⟩
  | 13 => ⟨S5000x7x7, .f32⟩
  | 14 => ⟨S5000x7x7, .f32⟩
  | 15 => ⟨S_, .i32⟩
  | 16 => ⟨S5000x7x7, .i32⟩
  | 17 => ⟨S5000x7x7, .i32⟩
  | 18 => ⟨S5000x7x7, .i32⟩
  | 19 => ⟨S_, .i32⟩
  | 20 => ⟨S5000x7x7, .i32⟩
  | 21 => ⟨S5000x7x7, .i32⟩
  | 22 => ⟨S5000x7x7, .i32⟩
  | 23 => ⟨S_, .i32⟩
  | 24 => ⟨S5000x7x7, .i32⟩
  | 25 => ⟨S5000x7x7, .i32⟩
  | 26 => ⟨S5000x7x7, .i32⟩
  | 27 => ⟨S_, .i32⟩
  | 28 => ⟨S5000x7x7, .i32⟩
  | 29 => ⟨S5000x7x7, .i32⟩
  | 30 => ⟨S5000x7x7, .i32⟩
  | 31 => ⟨S_, .i32⟩
  | 32 => ⟨S5000x7x7, .i32⟩
  | 33 => ⟨S5000x7x7, .i1⟩
  | 34 => ⟨S_, .i32⟩
  | 35 => ⟨S5000x7x7, .i32⟩
  | 36 => ⟨S5000x7x7, .i32⟩
  | 37 => ⟨S5000x7x7, .i32⟩
  | 38 => ⟨S5000x7x7x1, .i32⟩
  | 39 => ⟨S1, .i32⟩
  | 40 => ⟨S_, .i32⟩
  | 41 => ⟨S5000x7x7x1, .i32⟩
  | 42 => ⟨S5000x7x7x1, .i1⟩
  | 43 => ⟨S1x1x1x1, .i32⟩
  | 44 => ⟨S5000x7x7x1, .i32⟩
  | 45 => ⟨S5000x7x7x1, .i1⟩
  | 46 => ⟨S5000x7x7x1, .i1⟩
  | 47 => ⟨S_, .i1⟩
  | 48 => ⟨S5000x7x7, .i1⟩
  | 49 => ⟨S256x5000x7x7, .f32⟩
  | 50 => ⟨S256x5000x7x7, .i1⟩
  | 51 => ⟨S_, .f32⟩
  | 52 => ⟨S256x5000x7x7, .f32⟩
  | 53 => ⟨S256x5000x7x7, .f32⟩
  | 54 => ⟨S1x5000x7x7, .f32⟩
  | 55 => ⟨S256x5000x7x7, .f32⟩
  | 56 => ⟨S256x5000x7x7, .f32⟩
  | 57 => ⟨S_, .i32⟩
  | 58 => ⟨S5000x7x7, .i32⟩
  | 59 => ⟨S5000x7x7, .i1⟩
  | 60 => ⟨S_, .i32⟩
  | 61 => ⟨S5000x7x7, .i32⟩
  | 62 => ⟨S5000x7x7, .i32⟩
  | 63 => ⟨S5000x7x7, .i32⟩
  | 64 => ⟨S5000x7x7x1, .i32⟩
  | 65 => ⟨S1, .i32⟩
  | 66 => ⟨S_, .i32⟩
  | 67 => ⟨S5000x7x7x1, .i32⟩
  | 68 => ⟨S5000x7x7x1, .i1⟩
  | 69 => ⟨S1x1x1x1, .i32⟩
  | 70 => ⟨S5000x7x7x1, .i32⟩
  | 71 => ⟨S5000x7x7x1, .i1⟩
  | 72 => ⟨S5000x7x7x1, .i1⟩
  | 73 => ⟨S_, .i1⟩
  | 74 => ⟨S5000x7x7, .i1⟩
  | 75 => ⟨S256x5000x7x7, .f32⟩
  | 76 => ⟨S256x5000x7x7, .i1⟩
  | 77 => ⟨S_, .f32⟩
  | 78 => ⟨S256x5000x7x7, .f32⟩
  | 79 => ⟨S256x5000x7x7, .f32⟩
  | 80 => ⟨S1x5000x7x7, .f32⟩
  | 81 => ⟨S256x5000x7x7, .f32⟩
  | 82 => ⟨S256x5000x7x7, .f32⟩
  | 83 => ⟨S256x5000x7x7, .f32⟩
  | 84 => ⟨S_, .i32⟩
  | 85 => ⟨S5000x7x7, .i32⟩
  | 86 => ⟨S5000x7x7, .i1⟩
  | 87 => ⟨S_, .i32⟩
  | 88 => ⟨S5000x7x7, .i32⟩
  | 89 => ⟨S5000x7x7, .i32⟩
  | 90 => ⟨S5000x7x7, .i32⟩
  | 91 => ⟨S5000x7x7x1, .i32⟩
  | 92 => ⟨S1, .i32⟩
  | 93 => ⟨S_, .i32⟩
  | 94 => ⟨S5000x7x7x1, .i32⟩
  | 95 => ⟨S5000x7x7x1, .i1⟩
  | 96 => ⟨S1x1x1x1, .i32⟩
  | 97 => ⟨S5000x7x7x1, .i32⟩
  | 98 => ⟨S5000x7x7x1, .i1⟩
  | 99 => ⟨S5000x7x7x1, .i1⟩
  | 100 => ⟨S_, .i1⟩
  | 101 => ⟨S5000x7x7, .i1⟩
  | 102 => ⟨S256x5000x7x7, .f32⟩
  | 103 => ⟨S256x5000x7x7, .i1⟩
  | 104 => ⟨S_, .f32⟩
  | 105 => ⟨S256x5000x7x7, .f32⟩
  | 106 => ⟨S256x5000x7x7, .f32⟩
  | 107 => ⟨S1x5000x7x7, .f32⟩
  | 108 => ⟨S256x5000x7x7, .f32⟩
  | 109 => ⟨S256x5000x7x7, .f32⟩
  | 110 => ⟨S256x5000x7x7, .f32⟩
  | 111 => ⟨S_, .i32⟩
  | 112 => ⟨S5000x7x7, .i32⟩
  | 113 => ⟨S5000x7x7, .i1⟩
  | 114 => ⟨S_, .i32⟩
  | 115 => ⟨S5000x7x7, .i32⟩
  | 116 => ⟨S5000x7x7, .i32⟩
  | 117 => ⟨S5000x7x7, .i32⟩
  | 118 => ⟨S5000x7x7x1, .i32⟩
  | 119 => ⟨S1, .i32⟩
  | 120 => ⟨S_, .i32⟩
  | 121 => ⟨S5000x7x7x1, .i32⟩
  | 122 => ⟨S5000x7x7x1, .i1⟩
  | 123 => ⟨S1x1x1x1, .i32⟩
  | 124 => ⟨S5000x7x7x1, .i32⟩
  | 125 => ⟨S5000x7x7x1, .i1⟩
  | 126 => ⟨S5000x7x7x1, .i1⟩
  | 127 => ⟨S_, .i1⟩
  | _ => ⟨S1x256x64x64, .f32⟩

abbrev hbmTy0_2 (i : Nat) : BufTy := match i % 128 with
  | 0 => ⟨S5000x7x7, .i1⟩
  | 1 => ⟨S256x5000x7x7, .f32⟩
  | 2 => ⟨S256x5000x7x7, .i1⟩
  | 3 => ⟨S_, .f32⟩
  | 4 => ⟨S256x5000x7x7, .f32⟩
  | 5 => ⟨S256x5000x7x7, .f32⟩
  | 6 => ⟨S1x5000x7x7, .f32⟩
  | 7 => ⟨S256x5000x7x7, .f32⟩
  | 8 => ⟨S256x5000x7x7, .f32⟩
  | 9 => ⟨S256x5000x7x7, .f32⟩
  | 10 => ⟨S5000x256x7x7, .f32⟩
  | 11 => ⟨S_, .f32⟩
  | 12 => ⟨S5000x256x7x7, .f32⟩
  | 13 => ⟨S5000x256x7x7, .f32⟩
  | _ => ⟨S1x256x64x64, .f32⟩

abbrev hbmTy (i : Nat) : BufTy := match i / 128 with
  | 0 => hbmTy0_0 i
  | 1 => hbmTy0_1 i
  | 2 => hbmTy0_2 i
  | _ => ⟨S1x256x64x64, .f32⟩

abbrev bufTy : (tb : Table) → Fin (tcTables nBuf tb) → BufTy
  | .hbm, ⟨i, _⟩ => hbmTy i
  | _, _ => ⟨S1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_9 : Ref sig .tc := ⟨.hbm, 65, rfl⟩
abbrev main_v53 : Ref sig .tc := ⟨.hbm, 66, rfl⟩
abbrev main_v54 : Ref sig .tc := ⟨.hbm, 67, rfl⟩
abbrev main_cst_10 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_11 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_12 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_13 : Ref sig .tc := ⟨.hbm, 81, rfl⟩
abbrev main_call0_v0 : Ref sig .tc := ⟨.hbm, 82, rfl⟩
abbrev main_call0_v1 : Ref sig .tc := ⟨.hbm, 83, rfl⟩
abbrev main_v65 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c : Ref sig .tc := ⟨.hbm, 93, rfl⟩
abbrev main_v71 : Ref sig .tc := ⟨.hbm, 94, rfl⟩
abbrev main_v72 : Ref sig .tc := ⟨.hbm, 95, rfl⟩
abbrev main_c_15 : Ref sig .tc := ⟨.hbm, 96, rfl⟩
abbrev main_v73 : Ref sig .tc := ⟨.hbm, 97, rfl⟩
abbrev main_v74 : Ref sig .tc := ⟨.hbm, 98, rfl⟩
abbrev main_c_16 : Ref sig .tc := ⟨.hbm, 99, rfl⟩
abbrev main_call2_v0 : Ref sig .tc := ⟨.hbm, 100, rfl⟩
abbrev main_call2_v1 : Ref sig .tc := ⟨.hbm, 101, rfl⟩
abbrev main_v75 : Ref sig .tc := ⟨.hbm, 102, rfl⟩
abbrev main_c_17 : Ref sig .tc := ⟨.hbm, 103, rfl⟩
abbrev main_call3_v0 : Ref sig .tc := ⟨.hbm, 104, rfl⟩
abbrev main_call3_v1 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_call4_v0 : Ref sig .tc := ⟨.hbm, 111, rfl⟩
abbrev main_call4_v1 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_c_21 : Ref sig .tc := ⟨.hbm, 117, rfl⟩
abbrev main_call5_v0 : Ref sig .tc := ⟨.hbm, 118, rfl⟩
abbrev main_call5_v1 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_22 : Ref sig .tc := ⟨.hbm, 129, rfl⟩
abbrev main_v91 : Ref sig .tc := ⟨.hbm, 130, rfl⟩
abbrev main_v92 : Ref sig .tc := ⟨.hbm, 131, rfl⟩
abbrev main_cst_23 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_24 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_25 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_26 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_27 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_call8_c : Ref sig .tc := ⟨.hbm, 159, rfl⟩
abbrev main_call8_v0 : Ref sig .tc := ⟨.hbm, 160, rfl⟩
abbrev main_call8_v1 : Ref sig .tc := ⟨.hbm, 161, rfl⟩
abbrev main_call8_c_0 : Ref sig .tc := ⟨.hbm, 162, rfl⟩
abbrev main_call8_v2 : Ref sig .tc := ⟨.hbm, 163, rfl⟩
abbrev main_call8_v3 : Ref sig .tc := ⟨.hbm, 164, rfl⟩
abbrev main_call8_v4 : Ref sig .tc := ⟨.hbm, 165, rfl⟩
abbrev main_call8_v5 : Ref sig .tc := ⟨.hbm, 166, rfl⟩
abbrev main_call8_c_1 : Ref sig .tc := ⟨.hbm, 167, rfl⟩
abbrev main_call8_c_2 : Ref sig .tc := ⟨.hbm, 168, rfl⟩
abbrev main_call8_v6 : Ref sig .tc := ⟨.hbm, 169, rfl⟩
abbrev main_call8_v7 : Ref sig .tc := ⟨.hbm, 170, rfl⟩
abbrev main_call8_v8 : Ref sig .tc := ⟨.hbm, 171, rfl⟩
abbrev main_call8_v9 : Ref sig .tc := ⟨.hbm, 172, rfl⟩
abbrev main_call8_v10 : Ref sig .tc := ⟨.hbm, 173, rfl⟩
abbrev main_call8_v11 : Ref sig .tc := ⟨.hbm, 174, rfl⟩
abbrev main_call8_c_3 : Ref sig .tc := ⟨.hbm, 175, rfl⟩
abbrev main_call8_v12 : Ref sig .tc := ⟨.hbm, 176, rfl⟩
abbrev main_call8_v13 : Ref sig .tc := ⟨.hbm, 177, rfl⟩
abbrev main_call8_v14 : Ref sig .tc := ⟨.hbm, 178, rfl⟩
abbrev main_call8_cst : Ref sig .tc := ⟨.hbm, 179, rfl⟩
abbrev main_call8_v15 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_call9_c : Ref sig .tc := ⟨.hbm, 185, rfl⟩
abbrev main_call9_v0 : Ref sig .tc := ⟨.hbm, 186, rfl⟩
abbrev main_call9_v1 : Ref sig .tc := ⟨.hbm, 187, rfl⟩
abbrev main_call9_c_0 : Ref sig .tc := ⟨.hbm, 188, rfl⟩
abbrev main_call9_v2 : Ref sig .tc := ⟨.hbm, 189, rfl⟩
abbrev main_call9_v3 : Ref sig .tc := ⟨.hbm, 190, rfl⟩
abbrev main_call9_v4 : Ref sig .tc := ⟨.hbm, 191, rfl⟩
abbrev main_call9_v5 : Ref sig .tc := ⟨.hbm, 192, rfl⟩
abbrev main_call9_c_1 : Ref sig .tc := ⟨.hbm, 193, rfl⟩
abbrev main_call9_c_2 : Ref sig .tc := ⟨.hbm, 194, rfl⟩
abbrev main_call9_v6 : Ref sig .tc := ⟨.hbm, 195, rfl⟩
abbrev main_call9_v7 : Ref sig .tc := ⟨.hbm, 196, rfl⟩
abbrev main_call9_v8 : Ref sig .tc := ⟨.hbm, 197, rfl⟩
abbrev main_call9_v9 : Ref sig .tc := ⟨.hbm, 198, rfl⟩
abbrev main_call9_v10 : Ref sig .tc := ⟨.hbm, 199, rfl⟩
abbrev main_call9_v11 : Ref sig .tc := ⟨.hbm, 200, rfl⟩
abbrev main_call9_c_3 : Ref sig .tc := ⟨.hbm, 201, rfl⟩
abbrev main_call9_v12 : Ref sig .tc := ⟨.hbm, 202, rfl⟩
abbrev main_call9_v13 : Ref sig .tc := ⟨.hbm, 203, rfl⟩
abbrev main_call9_v14 : Ref sig .tc := ⟨.hbm, 204, rfl⟩
abbrev main_call9_cst : Ref sig .tc := ⟨.hbm, 205, rfl⟩
abbrev main_call9_v15 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_call10_c : Ref sig .tc := ⟨.hbm, 212, rfl⟩
abbrev main_call10_v0 : Ref sig .tc := ⟨.hbm, 213, rfl⟩
abbrev main_call10_v1 : Ref sig .tc := ⟨.hbm, 214, rfl⟩
abbrev main_call10_c_0 : Ref sig .tc := ⟨.hbm, 215, rfl⟩
abbrev main_call10_v2 : Ref sig .tc := ⟨.hbm, 216, rfl⟩
abbrev main_call10_v3 : Ref sig .tc := ⟨.hbm, 217, rfl⟩
abbrev main_call10_v4 : Ref sig .tc := ⟨.hbm, 218, rfl⟩
abbrev main_call10_v5 : Ref sig .tc := ⟨.hbm, 219, rfl⟩
abbrev main_call10_c_1 : Ref sig .tc := ⟨.hbm, 220, rfl⟩
abbrev main_call10_c_2 : Ref sig .tc := ⟨.hbm, 221, rfl⟩
abbrev main_call10_v6 : Ref sig .tc := ⟨.hbm, 222, rfl⟩
abbrev main_call10_v7 : Ref sig .tc := ⟨.hbm, 223, rfl⟩
abbrev main_call10_v8 : Ref sig .tc := ⟨.hbm, 224, rfl⟩
abbrev main_call10_v9 : Ref sig .tc := ⟨.hbm, 225, rfl⟩
abbrev main_call10_v10 : Ref sig .tc := ⟨.hbm, 226, rfl⟩
abbrev main_call10_v11 : Ref sig .tc := ⟨.hbm, 227, rfl⟩
abbrev main_call10_c_3 : Ref sig .tc := ⟨.hbm, 228, rfl⟩
abbrev main_call10_v12 : Ref sig .tc := ⟨.hbm, 229, rfl⟩
abbrev main_call10_v13 : Ref sig .tc := ⟨.hbm, 230, rfl⟩
abbrev main_call10_v14 : Ref sig .tc := ⟨.hbm, 231, rfl⟩
abbrev main_call10_cst : Ref sig .tc := ⟨.hbm, 232, rfl⟩
abbrev main_call10_v15 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_call11_c : Ref sig .tc := ⟨.hbm, 239, rfl⟩
abbrev main_call11_v0 : Ref sig .tc := ⟨.hbm, 240, rfl⟩
abbrev main_call11_v1 : Ref sig .tc := ⟨.hbm, 241, rfl⟩
abbrev main_call11_c_0 : Ref sig .tc := ⟨.hbm, 242, rfl⟩
abbrev main_call11_v2 : Ref sig .tc := ⟨.hbm, 243, rfl⟩
abbrev main_call11_v3 : Ref sig .tc := ⟨.hbm, 244, rfl⟩
abbrev main_call11_v4 : Ref sig .tc := ⟨.hbm, 245, rfl⟩
abbrev main_call11_v5 : Ref sig .tc := ⟨.hbm, 246, rfl⟩
abbrev main_call11_c_1 : Ref sig .tc := ⟨.hbm, 247, rfl⟩
abbrev main_call11_c_2 : Ref sig .tc := ⟨.hbm, 248, rfl⟩
abbrev main_call11_v6 : Ref sig .tc := ⟨.hbm, 249, rfl⟩
abbrev main_call11_v7 : Ref sig .tc := ⟨.hbm, 250, rfl⟩
abbrev main_call11_v8 : Ref sig .tc := ⟨.hbm, 251, rfl⟩
abbrev main_call11_v9 : Ref sig .tc := ⟨.hbm, 252, rfl⟩
abbrev main_call11_v10 : Ref sig .tc := ⟨.hbm, 253, rfl⟩
abbrev main_call11_v11 : Ref sig .tc := ⟨.hbm, 254, rfl⟩
abbrev main_call11_c_3 : Ref sig .tc := ⟨.hbm, 255, rfl⟩
abbrev main_call11_v12 : Ref sig .tc := ⟨.hbm, 256, rfl⟩
abbrev main_call11_v13 : Ref sig .tc := ⟨.hbm, 257, rfl⟩
abbrev main_call11_v14 : Ref sig .tc := ⟨.hbm, 258, rfl⟩
abbrev main_call11_cst : Ref sig .tc := ⟨.hbm, 259, rfl⟩
abbrev main_call11_v15 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_cst_28 : Ref sig .tc := ⟨.hbm, 267, rfl⟩
abbrev main_v135 : Ref sig .tc := ⟨.hbm, 268, rfl⟩
abbrev main_v136 : Ref sig .tc := ⟨.hbm, 269, rfl⟩

abbrev nD : Nat := 1
abbrev τ : Topo := Topo.v7x

variable {F : FTy → Type} [FloatOps F]
-- ==== Proof.Scalars.lean ====
/-
  The scalars of the two programs on the extended reals: the literals, the sampling coordinate of a bin, and what the
  floor, the conversion to a word and the comparisons give on a coordinate that lies in [0, 1).
-/
module

public import Idealize.ShloMosaic.Lib.Pointwise

@[expose] public section

noncomputable section

namespace Cert.RoiAlign

open Idealize.ShloMosaic

/-- The literal 1/32, by which a roi's corners are scaled. -/
abbrev scale : EReal := Ideal.ofBits .f32 0x3D000000#32
/-- The literal 1/2: a bin is sampled at its middle. -/
abbrev half : EReal := Ideal.ofBits .f32 0x3F000000#32
/-- The literal 7: the bins along each side. -/
abbrev seven : EReal := Ideal.ofBits .f32 0x40E00000#32

/-- The word 0x3D000000 is 1/32. -/
theorem scale_eq : scale = ((1 / 32 : ℝ) : EReal) := by
  simp [scale, Ideal.ofBits, Ideal.ieee, -EReal.coe_mul]; norm_num
/-- The word 0x3F000000 is 1/2. -/
theorem half_eq : half = ((1 / 2 : ℝ) : EReal) := by
  simp [half, Ideal.ofBits, Ideal.ieee, -EReal.coe_mul]; norm_num
/-- The word 0x40E00000 is 7. -/
theorem seven_eq : seven = ((7 : ℝ) : EReal) := by
  simp [seven, Ideal.ofBits, Ideal.ieee, -EReal.coe_mul]; norm_num
/-- The word 0xBF800000 is −1. -/
theorem neg_one_eq : Ideal.ofBits .f32 0xBF800000#32 = ((-1 : ℝ) : EReal) := by
  simp [Ideal.ofBits, Ideal.ieee, -EReal.coe_mul]; norm_num
/-- The word 0x42800000 is 64. -/
theorem sixty_four_eq : Ideal.ofBits .f32 0x42800000#32 = ((64 : ℝ) : EReal) := by
  simp [Ideal.ofBits, Ideal.ieee, -EReal.coe_mul]; norm_num

/-- A bin number as an extended real. -/
abbrev bin (p : Nat) : EReal := ((p : ℝ) : EReal)

/-- Where bin `p` is sampled along one side of a roi that runs from `lo` to `hi`: the scaled low corner plus
    `p + 1/2` bins, a bin being the seventh part of the scaled side, which counts as at least 1. -/
def coord (lo hi : EReal) (p : Nat) : EReal :=
  lo * scale + (bin p + half) * Ideal.div (max (hi * scale - lo * scale) 1) seven

/-- The bilinear mix of the four corner features, `y` and `x` being the offsets from the low row and column. -/
def blend (f00 f01 f10 f11 y x : EReal) : EReal :=
  f00 * ((1 - y) * (1 - x)) + f01 * ((1 - y) * x) + f10 * (y * (1 - x)) + f11 * (y * x)

/-- What both programs compute, at roi `i 0`, channel `i 1`, bin row `i 2` and bin column `i 3`: the bilinear mix of the
    features at rows 0 and 1, columns 0 and 1 of the one image, at the bin's sampling coordinates. A roi is stored as
    (low x, low y, high x, high y). -/
def answer (feat : (⟨4, ![1, 256, 64, 64]⟩ : Shape).Idx → EReal) (rois : (⟨2, ![5000, 4]⟩ : Shape).Idx → EReal) :
    (⟨4, ![5000, 256, 7, 7]⟩ : Shape).Idx → EReal := fun i =>
  blend (feat (ix4 0 (i 1) 0 0)) (feat (ix4 0 (i 1) 0 1)) (feat (ix4 0 (i 1) 1 0)) (feat (ix4 0 (i 1) 1 1))
    (coord (rois (ix2 (i 0) 1)) (rois (ix2 (i 0) 3)) (i 2).val) (coord (rois (ix2 (i 0) 0)) (rois (ix2 (i 0) 2)) (i 3).val)

/-- The quotient by 1 is the dividend, an infinite one too. -/
theorem div_one (s : EReal) : Ideal.div s 1 = s := by
  rw [← EReal.coe_one, Ideal.div_coe one_ne_zero]
  norm_num

/-- The word zero converted to a float is 0. -/
theorem sitofp_zero : (((0#32).toInt : ℝ) : EReal) = 0 := by norm_num

/-- When both corners lie in [0, 1) the coordinate of each of the seven bins is a real number in [0, 1). -/
theorem coord_unit {lo hi : EReal} (hl0 : 0 ≤ lo) (hl1 : lo < 1) (hh0 : 0 ≤ hi) (hh1 : hi < 1) {p : Nat} (hp : p < 7) :
    ∃ r : ℝ, coord lo hi p = (r : EReal) ∧ 0 ≤ r ∧ r < 1 := by
  lift lo to ℝ using ⟨(hl1.trans_le le_top).ne, ne_bot_of_le_ne_bot (by simp) hl0⟩ with a
  lift hi to ℝ using ⟨(hh1.trans_le le_top).ne, ne_bot_of_le_ne_bot (by simp) hh0⟩ with b
  have a0 : (0 : ℝ) ≤ a := by exact_mod_cast hl0
  have a1 : a < 1 := by exact_mod_cast hl1
  have b0 : (0 : ℝ) ≤ b := by exact_mod_cast hh0
  have b1 : b < 1 := by exact_mod_cast hh1
  have side : max (b * (1 / 32) - a * (1 / 32)) (1 : ℝ) = 1 := max_eq_right (by linarith)
  have hp' : (p : ℝ) ≤ 6 := by exact_mod_cast Nat.lt_succ_iff.mp hp
  have hp0 : (0 : ℝ) ≤ p := Nat.cast_nonneg p
  refine ⟨a * (1 / 32) + (p + 1 / 2) * (1 * (1 / 7)), ?_, by positivity, by linarith⟩
  unfold coord
  rw [scale_eq, half_eq, seven_eq, Ideal.div_coe (by norm_num : (7 : ℝ) ≠ 0)]
  have e : max ((b : EReal) * ((1 / 32 : ℝ) : EReal) - (a : EReal) * ((1 / 32 : ℝ) : EReal)) 1
      = ((1 : ℝ) : EReal) := by
    rw [← EReal.coe_mul, ← EReal.coe_mul, ← EReal.coe_sub]
    rw [← EReal.coe_one]
    exact max_eq_right (by exact_mod_cast (by linarith : b * (1 / 32) - a * (1 / 32) ≤ 1))
  rw [e]
  norm_cast

/-- A 32-bit word below 49, converted to a float, is the number itself. -/
theorem sitofp_bin {p : Nat} (hp : p < 49) : (((BitVec.ofNat 32 p).toInt : ℝ) : EReal) = bin p := by
  have h : (BitVec.ofNat 32 p).toInt = (p : Int) := by
    rw [BitVec.toInt_eq_toNat_cond, BitVec.toNat_ofNat]; omega
  rw [h]; rfl

/-- A real at or above 0 is above the literal −1, -/
theorem neg_one_lt {r : ℝ} (h : 0 ≤ r) : Ideal.ofBits .f32 0xBF800000#32 < (r : EReal) := by
  rw [neg_one_eq]; exact_mod_cast (by linarith : (-1 : ℝ) < r)
/-- and a real below 1 is below the literal 64. -/
theorem lt_sixty_four {r : ℝ} (h : r < 1) : (r : EReal) < Ideal.ofBits .f32 0x42800000#32 := by
  rw [sixty_four_eq]; exact_mod_cast (by linarith : r < (64 : ℝ))

/-- Clipping a real at or above 0 from below at the literal 0 gives the real. -/
theorem clip_eq {r : ℝ} (h : 0 ≤ r) : max (Ideal.ofBits .f32 0x00000000#32) (r : EReal) = r := by
  rw [Ideal.ofBits_zero_f32]
  exact max_eq_right (by exact_mod_cast h)

/-- The floor of a real in [0, 1), as a word, is zero. -/
theorem low_word {r : ℝ} (h0 : 0 ≤ r) (h1 : r < 1) :
    Ideal.fptosi 32 (Ideal.liftRound Int.floor (r : EReal)) = 0#32 := by
  have e : Ideal.liftRound Int.floor (r : EReal) = ((0 : ℝ) : EReal) := by
    have hf : ⌊r⌋ = 0 := Int.floor_eq_zero_iff.mpr ⟨h0, h1⟩
    show (((⌊r⌋ : ℤ) : ℝ) : EReal) = _
    rw [hf]; norm_num
  rw [e]
  unfold Ideal.fptosi
  have z : Ideal.toIntClamped (-(2 ^ (32 - 1) : Nat)) ((2 ^ (32 - 1) : Nat) - 1) ((0 : ℝ) : EReal) = 0 := by
    show max _ (min _ (if (0 : ℝ) ≤ 0 then ⌊(0 : ℝ)⌋ else ⌈(0 : ℝ)⌉)) = (0 : Int)
    rw [if_pos le_rfl, Int.floor_zero]; norm_num
  rw [z]; rfl

end Cert.RoiAlign

end
-- ==== Proof.KernelBlock.lean ====
/-
  What the kernel body leaves in one block of the result, read at an index: the bilinear mix of the features at rows 0
  and 1, columns 0 and 1, at the sampling coordinates of the block's roi.
-/
module

public import proofs.«01_k».proof.Proof.Gen.KernelIdeal.Frame
public import proofs.«01_k».proof.Proof.Scalars
public import Idealize.ShloMosaic.Lib.Pipeline.Value
public import Idealize.ShloMosaic.Lib.Pointwise

@[expose] public section

set_option maxRecDepth 16384

noncomputable section

namespace Cert.KernelIdeal.Block

open Cert.KernelIdeal Cert.KernelIdeal.Gen
open Idealize.ShloMosaic
open Cert.RoiAlign (coord blend)

/-- Both offsets of the covering load and store are zero (rank 2). -/
theorem zero2 : (![0, 0] : Fin 2 → Nat) = fun _ => 0 := by funext a; match a with | 0 => rfl | 1 => rfl
/-- and rank 3. -/
theorem zero3 : (![0, 0, 0] : Fin 3 → Nat) = fun _ => 0 := by funext a; match a with | 0 => rfl | 1 => rfl | 2 => rfl

variable (x0 : Vec Ideal S40x4 .f32) (x1 : Vec Ideal S256x4096 .f32)

/-- The scaled first corner column: the roi's low x times 1/32. -/
theorem lowX (r : Fin 40) (z : Fin 1) : k0_pay19 x0 x1 (ix2 r z) = x0 (ix2 r 0) * Cert.RoiAlign.scale := by
  unfold k0_pay19
  rw [View.ld_unit_zero zero2]
  pointwise [k0_pay2]

/-- The roi's low y times 1/32. -/
theorem lowY (r : Fin 40) (z : Fin 1) : k0_pay20 x0 x1 (ix2 r z) = x0 (ix2 r 1) * Cert.RoiAlign.scale := by
  unfold k0_pay20
  rw [View.ld_unit_zero zero2]
  pointwise [k0_pay3]

/-- The width of a bin: the seventh part of the roi's scaled width, which counts as at least 1. -/
theorem binW (r : Fin 40) (z : Fin 1) : k0_pay21 x0 x1 (ix2 r z)
    = Ideal.div (max (x0 (ix2 r 2) * Cert.RoiAlign.scale - x0 (ix2 r 0) * Cert.RoiAlign.scale) 1) Cert.RoiAlign.seven := by
  unfold k0_pay21
  rw [View.ld_unit_zero zero2]
  pointwise [k0_pay4, k0_pay2]

/-- The height of a bin, likewise. -/
theorem binH (r : Fin 40) (z : Fin 1) : k0_pay22 x0 x1 (ix2 r z)
    = Ideal.div (max (x0 (ix2 r 3) * Cert.RoiAlign.scale - x0 (ix2 r 1) * Cert.RoiAlign.scale) 1) Cert.RoiAlign.seven := by
  unfold k0_pay22
  rw [View.ld_unit_zero zero2]
  pointwise [k0_pay5, k0_pay3]

/-- Lane `s` samples at the y of bin row `s / 7`: the floor division on words is the division of lane numbers. -/
theorem coordY (r : Fin 40) (s : Fin 49) :
    k0_pay10 (k0_pay20 x0 x1) (k0_pay22 x0 x1) (k0_pay23 x0 x1) (k0_pay24 x0 x1) (k0_pay25 x0 x1) (k0_pay26 x0 x1) (ix2 r s)
      = coord (x0 (ix2 r 1)) (x0 (ix2 r 3)) (s.val / 7) := by
  unfold k0_pay23 k0_pay24 k0_pay25 k0_pay26
  pointwise [k0_pay10, k0_pay6, k0_pay7, k0_pay8, k0_pay9]
  rw [lowY, binH]
  unfold coord
  congr 3
  refine Eq.trans (congrArg (FloatOps.sitofp (F := Ideal) .f32) (?_ : _ = BitVec.ofNat 32 (s.val / 7)))
    (Cert.RoiAlign.sitofp_bin (by omega))
  revert s
  decide +kernel

/-- Lane `s` samples at the x of bin column `s % 7`: the floor remainder on words is the remainder of lane numbers. -/
theorem coordX (r : Fin 40) (s : Fin 49) :
    k0_pay11 (k0_pay19 x0 x1) (k0_pay21 x0 x1) (k0_pay18 x0 x1) (ix2 r s)
      = coord (x0 (ix2 r 0)) (x0 (ix2 r 2)) (s.val % 7) := by
  unfold k0_pay18
  pointwise [k0_pay11]
  rw [lowX, binW]
  unfold coord
  congr 3
  refine Eq.trans (congrArg (FloatOps.sitofp (F := Ideal) .f32) (?_ : _ = BitVec.ofNat 32 (s.val % 7)))
    (Cert.RoiAlign.sitofp_bin (by omega))
  revert s
  decide +kernel

/-- The block the body leaves, at roi `r` of the block, channel `ch` and lane `s`. -/
theorem block_apply (r : Fin 40) (ch : Fin 256) (s : Fin 49) :
    out0_2 x0 x1 (ix3 r ch s)
      = blend (x1 (ix2 ch 0)) (x1 (ix2 ch 1)) (x1 (ix2 ch 64)) (x1 (ix2 ch 65))
          (coord (x0 (ix2 r 1)) (x0 (ix2 r 3)) (s.val / 7)) (coord (x0 (ix2 r 0)) (x0 (ix2 r 2)) (s.val % 7)) := by
  unfold out0_2
  rw [View.canon_unit_zero zero3]
  pointwise [k0_pay1, k0_pay14, k0_pay15, k0_pay16, k0_pay17, k0_pay12, k0_pay13]
  rw [coordY, coordX]
  rfl

end Cert.KernelIdeal.Block

end
-- ==== Proof.KernelValue.lean ====
/-
  The kernel's result: what each grid point writes back is its block of one whole array, the blocks tile the array, and
  the host's reshape afterwards splits the 49 lanes into 7 bin rows of 7 bin columns.
-/
module

public import proofs.«01_k».proof.Proof.KernelBlock
public import Idealize.ShloMosaic.Lib.StableHlo.Run

@[expose] public section

set_option maxRecDepth 16384

noncomputable section

namespace Cert.KernelIdeal.Result

open Cert.KernelIdeal Cert.KernelIdeal.Gen
open Idealize.ShloMosaic Idealize.ShloMosaic.TcCoe Idealize.SL.Sem
open Idealize.ShloMosaic.Pipeline (Dat)
open Cert.RoiAlign (coord blend answer)

variable (m : (ℓ : Loc nD τ sig) → Buf (Elt Ideal) ℓ) (ρ : Dev nD → PrngReg)

/-- The whole result before the reshape, of features with the image's rows laid end to end: lane `s` is bin row `s / 7`,
    bin column `s % 7`; row 1 of the image begins at position 64. -/
def lanes (feat : S256x4096.Idx → EReal) (rois : S5000x4.Idx → EReal) : S5000x256x49.Idx → EReal := fun i =>
  blend (feat (ix2 (i 1) 0)) (feat (ix2 (i 1) 1)) (feat (ix2 (i 1) 64)) (feat (ix2 (i 1) 65))
    (coord (rois (ix2 (i 0) 1)) (rois (ix2 (i 0) 3)) ((i 2).val / 7))
    (coord (rois (ix2 (i 0) 0)) (rois (ix2 (i 0) 2)) ((i 2).val % 7))

/-- Where the blocks of the three windows start, and how far they reach, at each grid point. -/
theorem starts : ∀ t : Fin grid0.N,
    (win0_0.index t 0 * win0_0.size 0 = t.val * 40 ∧ win0_0.index t 1 * win0_0.size 1 = 0)
    ∧ (win0_1.index t 0 * win0_1.size 0 = 0 ∧ win0_1.index t 1 * win0_1.size 1 = 0)
    ∧ (win0_2.index t 0 * win0_2.size 0 = t.val * 40 ∧ win0_2.index t 1 * win0_2.size 1 = 0
      ∧ win0_2.index t 2 * win0_2.size 2 = 0)
    ∧ (win0_2.xsize (grid0.coords t) 0 = 40 ∧ win0_2.xsize (grid0.coords t) 1 = 256
      ∧ win0_2.xsize (grid0.coords t) 2 = 49) := by
  decide +kernel

/-- A grid point is below 125, so its forty rois are rois of the array. -/
theorem roi_lt (t : Fin cfg0.N) (r : Fin 40) : t.val * 40 + r.val < 5000 := by
  have h : t.val < 125 := lt_of_lt_of_eq t.isLt N_0
  omega

/-- Point `t`'s block of the rois: rois `40 t` to `40 t + 39`. -/
theorem rois_block (c : Dev nD) (t : Fin cfg0.N) (r : Fin 40) (k : Fin 4) :
    iblk m c 0 t (ix2 r k) = V m c main_arg1 (ix2 ⟨t.val * 40 + r.val, roi_lt t r⟩ k) := by
  obtain ⟨⟨e0, e1⟩, -⟩ := starts t
  refine congrArg (V m c main_arg1) (funext fun a => Fin.ext ?_)
  match a with
  | ⟨0, _⟩ =>
    show win0_0.index t 0 * win0_0.size 0 + 1 * r.val = t.val * 40 + r.val
    rw [e0]; omega
  | ⟨1, _⟩ =>
    show win0_0.index t 1 * win0_0.size 1 + 1 * k.val = k.val
    rw [e1]; omega

/-- Every point's block of the features is the whole of them. -/
theorem feat_block (c : Dev nD) (t : Fin cfg0.N) (ch : Fin 256) (k : Fin 4096) :
    iblk m c 1 t (ix2 ch k) = V m c main_v1 (ix2 ch k) := by
  obtain ⟨-, ⟨e0, e1⟩, -⟩ := starts t
  refine congrArg (V m c main_v1) (funext fun a => Fin.ext ?_)
  match a with
  | ⟨0, _⟩ =>
    show win0_1.index t 0 * win0_1.size 0 + 1 * ch.val = ch.val
    rw [e0]; omega
  | ⟨1, _⟩ =>
    show win0_1.index t 1 * win0_1.size 1 + 1 * k.val = k.val
    rw [e1]; omega

/-- Where an index of point `t`'s result block lies in the result. -/
theorem out_block (t : Fin cfg0.N) (r : Fin 40) (ch : Fin 256) (s : Fin 49) :
    (win0_2.rect t).emb (ix3 r ch s) = (ix3 ⟨t.val * 40 + r.val, roi_lt t r⟩ ch s : S5000x256x49.Idx) := by
  obtain ⟨-, -, ⟨e0, e1, e2⟩, -⟩ := starts t
  refine funext fun a => Fin.ext ?_
  match a with
  | ⟨0, _⟩ =>
    show win0_2.index t 0 * win0_2.size 0 + 1 * r.val = t.val * 40 + r.val
    rw [e0]; omega
  | ⟨1, _⟩ =>
    show win0_2.index t 1 * win0_2.size 1 + 1 * ch.val = ch.val
    rw [e1]; omega
  | ⟨2, _⟩ =>
    show win0_2.index t 2 * win0_2.size 2 + 1 * s.val = s.val
    rw [e2]; omega

/-- What point `t` writes back is block `t` of the whole result. -/
theorem written (c : Dev nD) (t : Fin cfg0.N) :
    (dats m 0 c).flushed 2 t
      = (win0_2.blk t).view.read (Elt Ideal) (lanes (V m c main_v1) (V m c main_arg1)) := by
  show (cfg0.win 2).cut (grid0.coords t) ((dats m 0 c).after 2 t) = _
  rw [after0_2]
  funext j
  obtain ⟨r, ch, s, rfl⟩ : ∃ (r : Fin 40) (ch : Fin 256) (s : Fin 49), j = ix3 r ch s := ⟨j 0, j 1, j 2, eq_ix3 j⟩
  show out0_2 (iblk m c 0 t) (iblk m c 1 t) (ix3 r ch s)
    = lanes (V m c main_v1) (V m c main_arg1) ((win0_2.rect t).emb (ix3 r ch s))
  rw [out_block, Block.block_apply]
  simp only [rois_block, feat_block]
  rfl

/-- The result index `i` lies in the block of the point `i 0 / 40`, and that block is written back. -/
theorem covered (i : S5000x256x49.Idx) :
    ∃ t : Fin cfg0.N, (cfg0.win 2).flush t = true ∧ i ∈ ((cfg0.win 2).blk t).view.set := by
  have h0 : (i 0 : Nat) < 5000 := (i 0).isLt
  have h1 : (i 1 : Nat) < 256 := (i 1).isLt
  have h2 : (i 2 : Nat) < 49 := (i 2).isLt
  have hN : cfg0.N = 125 := N_0
  have ht : (i 0 : Nat) / 40 < cfg0.N := by omega
  refine ⟨⟨(i 0 : Nat) / 40, ht⟩, flush0_2 _, ?_⟩
  show i ∈ ((View.whole main_v2).slice (win0_2.rect ⟨(i 0 : Nat) / 40, ht⟩)).set
  rw [View.set_slice_whole, Rect.mem_set_unit]
  obtain ⟨-, -, ⟨e0, e1, e2⟩, x0, x1, x2⟩ := starts ⟨(i 0 : Nat) / 40, ht⟩
  intro a
  match a with
  | ⟨0, _⟩ =>
    show win0_2.index _ 0 * win0_2.size 0 ≤ (i 0 : Nat) ∧ (i 0 : Nat) < win0_2.index _ 0 * win0_2.size 0 + win0_2.xsize _ 0
    rw [e0, x0]; dsimp only; omega
  | ⟨1, _⟩ =>
    show win0_2.index _ 1 * win0_2.size 1 ≤ (i 1 : Nat) ∧ (i 1 : Nat) < win0_2.index _ 1 * win0_2.size 1 + win0_2.xsize _ 1
    rw [e1, x1]; omega
  | ⟨2, _⟩ =>
    show win0_2.index _ 2 * win0_2.size 2 ≤ (i 2 : Nat) ∧ (i 2 : Nat) < win0_2.index _ 2 * win0_2.size 2 + win0_2.xsize _ 2
    rw [e2, x2]; omega

/-- So the array the blocks are written to ends holding the whole result. -/
theorem array (c : Dev nD) :
    (dats m 0 c).arrAt 2 cfg0.N = lanes (V m c main_v1) (V m c main_arg1) :=
  (dats m 0 c).arrAt_eq_of_cover 2 (lanes (V m c main_v1) (V m c main_arg1)) (fun t _ => written m c t) covered

/-- The features as the blocks find them: the one image dropped and its rows laid end to end. -/
theorem V_feat (c : Dev nD) : V m c main_v1
    = shapeCast S256x4096 (shapeCast S256x64x64 (m ((c : Thread nD τ).loc main_arg0)) shapeCasts_S1x256x64x64_S256x64x64)
        shapeCasts_S256x64x64_S256x4096 := by
  show StableHlo.after hostOps0 (fun b => m (c, b)) (Proc.devRef .tc main_v1) = _
  unfold hostOps0
  after_results
  rfl

/-- Splitting the lanes of the whole result into rows and columns of bins gives the answer. -/
theorem lanes_split (feat : S1x256x64x64.Idx → EReal) (rois : S5000x4.Idx → EReal) :
    shapeCast S5000x256x7x7 (lanes (shapeCast S256x4096 (shapeCast S256x64x64 feat shapeCasts_S1x256x64x64_S256x64x64)
        shapeCasts_S256x64x64_S256x4096) rois) shapeCasts_S5000x256x49_S5000x256x7x7
      = answer feat rois := by
  funext j
  idx_vars j
  unfold lanes answer
  pointwise
  rw [show (j2.val * 7 + j3.val) / 7 = j2.val by omega, show (j2.val * 7 + j3.val) % 7 = j3.val by omega]

/-- The result buffer after the reshape. -/
theorem tail_v3 (c : Dev nD) :
    Pipeline.afterTail₀ cfgs (dats m) 0 (V0 m) [hostOps1] c main_v3
      = answer (m ((c : Thread nD τ).loc main_arg0)) (m ((c : Thread nD τ).loc main_arg1)) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v2)
      = lanes (V m c main_v1) (V m c main_arg1) :=
    (Pipeline.withArrays_arr (cfgs 0).spec (by decide) c (V0 m c) (fun w => (dats m 0 c).arrAt w (cfgs 0).N) 2).trans
      (array m c)
  rw [e, V_feat, V_main_arg1]
  exact lanes_split _ _

/-- The run: on every device the result is the answer of the arguments, which are unchanged. -/
theorem run : θ_run defs (onTc (τ := τ) (main (F := Ideal))) ⟨m, fun _ => 0, ρ⟩ fun r => ∀ c : Dev nD,
      r.2.mem ((c : Thread nD τ).loc main_v3)
        = answer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_v3 m c),
       ((h c).2 main_arg0 (Pipeline.mem_restRefs_of main_arg0 (by decide) (by decide))).trans (W_main_arg0 m (dats m) c),
       ((h c).1 0).trans (((dats m 0 c).arrAt_in 0 rfl _).trans (V_main_arg1 m c))⟩)
    (run_main m ρ)

end Cert.KernelIdeal.Result

end
-- ==== Proof.Take.lean ====
/-
  The reference's lookup of features by position, read at an index: channel `ch` of the result at (roi, row, column) is
  channel `ch` of the features at the position the index array holds for that (roi, row, column); and the whole of
  `jnp.take`, which counts a negative position from the end and fills what lies outside, where all positions are one
  position of the features.
-/
module

public import proofs.«01_k».proof.Proof.Gen.ReferenceIdeal
public import Idealize.ShloMosaic.Lib.Pointwise
public import Idealize.ShloMosaic.Lib.ReduceAll

@[expose] public section

set_option maxRecDepth 16384

noncomputable section

namespace Cert.ReferenceIdeal.Take

open Cert.ReferenceIdeal
open Idealize.ShloMosaic

/-- The dimension numbers of the lookup. -/
abbrev dims : GatherDims S256x4096 S5000x7x7x1 S256x5000x7x7 := gather_S256x4096_S5000x7x7x1_S256x5000x7x7_0_1_n_n_1_3_2561

/-- Result axis 0 runs over the channels, result axes 1, 2 and 3 over the index array: the index array is read at the
    result's (roi, row, column). -/
theorem where_read (ch : Fin 256) (n : Fin 5000) (i j : Fin 7) (k : Fin dims.startIndexMap.length) :
    dims.siIdx (ix4 ch n i j) k = ix4 n i j 0 := by
  funext b
  refine Fin.ext ?_
  match b with
  | ⟨0, _⟩ => rfl
  | ⟨1, _⟩ => rfl
  | ⟨2, _⟩ => rfl
  | ⟨3, _⟩ =>
    have h : ∀ k : Fin 1, k.val = 0 := fun k => by omega
    exact h k

/-- THE LOOKUP AT AN INDEX, where the index array holds a position of the features. -/
theorem apply {α : Type} (x : S256x4096.Idx → α) (idx : IVec S5000x7x7x1 32) (ch : Fin 256) (n : Fin 5000) (i j : Fin 7)
    (p : Fin 4096) (hp : idx (ix4 n i j 0) = BitVec.ofNat 32 p.val) :
    Host.gather dims x idx (ix4 ch n i j) = x (ix2 ch p) := by
  unfold Host.gather
  refine congrArg x (funext fun a => Fin.ext ?_)
  show dims.start (ix4 ch n i j) idx a + dims.batchCoord (ix4 ch n i j) a + dims.offCoord (ix4 ch n i j) a = _
  rw [GatherDims.batchCoord_eq_zero _ _ _ List.not_mem_nil]
  match a with
  | ⟨0, _⟩ =>
    have hs : dims.start (ix4 ch n i j) idx 0 = 0 := by
      unfold GatherDims.start
      exact dif_neg (by decide)
    have ho : dims.offCoord (ix4 ch n i j) 0 = ch.val := rfl
    show dims.start (ix4 ch n i j) idx 0 + 0 + dims.offCoord (ix4 ch n i j) 0 = ch.val
    rw [hs, ho]; omega
  | ⟨1, _⟩ =>
    have ho : dims.offCoord (ix4 ch n i j) 1 = 0 := rfl
    have hs : dims.start (ix4 ch n i j) idx 1 = p.val := by
      unfold GatherDims.start
      rw [dif_pos (by decide), where_read, hp]
      show min (BitVec.ofNat 32 p.val).toInt.toNat (4096 - 1) = p.val
      have e : (BitVec.ofNat 32 p.val).toInt = (p.val : Int) := by
        rw [BitVec.toInt_eq_toNat_cond, BitVec.toNat_ofNat]; omega
      rw [e]; omega
    show dims.start (ix4 ch n i j) idx 1 + 0 + dims.offCoord (ix4 ch n i j) 1 = p.val
    rw [hs, ho]; omega

/-- The positions as the lookup reads them: 4096 added to a negative one. -/
def wrapped (pos : IVec S5000x7x7 32) : IVec S5000x7x7x1 32 :=
  broadcastInDim S5000x7x7x1 ![0, 1, 2] Facts₀.bcast_S5000x7x7_S5000x7x7x1_0_1_2
    (select (cmpi .slt pos (broadcastInDim S5000x7x7 ![] Facts₀.bcast_S_S5000x7x7 (constantI S_ 32 0#32)))
      (addi pos (broadcastInDim S5000x7x7 ![] Facts₀.bcast_S_S5000x7x7 (constantI S_ 32 4096#32))) pos)

/-- Whether a position lies within the features. -/
def within (pos : IVec S5000x7x7 32) : IVec S5000x7x7x1 1 :=
  andi
    (cmpi .sge (wrapped pos)
      (broadcastInDim S5000x7x7x1 ![] Facts₀.bcast_S_S5000x7x7x1 (constantI S_ 32 0#32)))
    (cmpi .sle (wrapped pos)
      (broadcastInDim S5000x7x7x1 ![0, 1, 2, 3] Facts₀.bcast_S1x1x1x1_S5000x7x7x1_0_1_2_3
        (broadcastInDim S1x1x1x1 ![3] Facts₀.bcast_S1_S1x1x1x1_3 (constantI S1 32 4095#32))))

/-- `jnp.take` of the features along the positions: what lies within is looked up, the rest is filled. -/
def take (feat : FVec Ideal S256x4096 .f32) (pos : IVec S5000x7x7 32) : FVec Ideal S256x5000x7x7 .f32 :=
  select
    (broadcastInDim S256x5000x7x7 ![1, 2, 3] Facts₀.bcast_S5000x7x7_S256x5000x7x7_1_2_3
      (Host.reduce IntOp.andi (within pos) (constantI S_ 1 1#1) Facts₀.reducesTo_S5000x7x7x1_S5000x7x7_d3 Facts₀.h_S_))
    (Host.gather dims feat (wrapped pos))
    (broadcastInDim S256x5000x7x7 ![] Facts₀.bcast_S_S256x5000x7x7 (constant S_ .f32 0x7FC00000#32))

/-- A word below 4096 is not negative as a signed number, and at most 4095. -/
theorem word_within (p : Fin 4096) :
    IntOp.cmpi .slt (BitVec.ofNat 32 p.val) 0#32 = 0#1
      ∧ IntOp.andi (IntOp.cmpi .sge (BitVec.ofNat 32 p.val) 0#32) (IntOp.cmpi .sle (BitVec.ofNat 32 p.val) 4095#32) = 1#1 := by
  revert p
  decide +kernel

/-- Positions that are all the one position `p` stay as they are, -/
theorem wrapped_apply (pos : IVec S5000x7x7 32) (p : Fin 4096) (hp : ∀ n i j, pos (ix3 n i j) = BitVec.ofNat 32 p.val)
    (n : Fin 5000) (i j : Fin 7) : wrapped pos (ix4 n i j 0) = BitVec.ofNat 32 p.val := by
  pointwise [wrapped]
  rw [hp, (word_within p).1]
  rfl

/-- lie within the features, -/
theorem within_apply (pos : IVec S5000x7x7 32) (p : Fin 4096) (hp : ∀ n i j, pos (ix3 n i j) = BitVec.ofNat 32 p.val)
    (q : S5000x7x7x1.Idx) : within pos q = 1#1 := by
  obtain ⟨n, i, j, z, rfl⟩ : ∃ (n : Fin 5000) (i j : Fin 7) (z : Fin 1), q = ix4 n i j z :=
    ⟨q 0, q 1, q 2, q 3, eq_ix4 q⟩
  obtain rfl : z = 0 := Subsingleton.elim _ _
  pointwise [within]
  rw [wrapped_apply pos p hp]
  exact (word_within p).2

/-- and what is taken there is the feature at that position. -/
theorem take_apply (feat : FVec Ideal S256x4096 .f32) (pos : IVec S5000x7x7 32) (p : Fin 4096)
    (hp : ∀ n i j, pos (ix3 n i j) = BitVec.ofNat 32 p.val) (ch : Fin 256) (n : Fin 5000) (i j : Fin 7) :
    take feat pos (ix4 ch n i j) = feat (ix2 ch p) := by
  have bit : Host.reduce IntOp.andi (within pos) (constantI S_ 1 1#1) Facts₀.reducesTo_S5000x7x7x1_S5000x7x7_d3 Facts₀.h_S_
      = fun _ => 1#1 := funext fun o => Host.reduce_andi_one _ _ _ _ o rfl (within_apply pos p hp)
  unfold take
  rw [bit]
  exact apply feat (wrapped pos) ch n i j p (wrapped_apply pos p hp n i j)

end Cert.ReferenceIdeal.Take

end
-- ==== Proof.RefValue.lean ====
/-
  The reference's result at rois whose coordinates lie in [0, 1): every sampling coordinate lies in [0, 1), so its low row
  (column) is 0 and its high one 1, no sample falls outside the image, and the result is the bilinear mix of the features at
  rows 0 and 1, columns 0 and 1.
-/
module

public import proofs.«01_k».proof.Proof.Gen.ReferenceIdeal.Read
public import proofs.«01_k».proof.Proof.Scalars
public import proofs.«01_k».proof.Proof.Take
public import Idealize.ShloMosaic.Lib.Pointwise

@[expose] public section

set_option maxRecDepth 16384

noncomputable section

namespace Cert.ReferenceIdeal.Result

open Cert.ReferenceIdeal Cert.ReferenceIdeal.Read
open Idealize.ShloMosaic
open Cert.RoiAlign

variable (x0 : S1x256x64x64.Idx → EReal) (x1 : S5000x4.Idx → EReal)

/-- Every coordinate of every roi lies in [0, 1). -/
def InUnit : Prop := ∀ (n : Fin 5000) (k : Fin 4), 0 ≤ x1 (ix2 n k) ∧ x1 (ix2 n k) < 1

/-! ## The sampling coordinates -/

/-- The y coordinate at (roi, row, column) is that of the bin row. -/
theorem sampleY (n : Fin 5000) (i j : Fin 7) :
    val_main_v50 (F := Ideal) x1 (ix3 n i j) = coord (x1 (ix2 n 1)) (x1 (ix2 n 3)) i.val := by
  pointwise [val_main_v50, val_main_v49, val_main_v38, val_main_v36, val_main_v35, val_main_v33, val_main_v27,
    val_main_v26, val_main_cst_6, val_main_v23, val_main_v22, val_main_cst_4, val_main_v21, val_main_v9,
    val_main_v8, val_main_cst_0, val_main_v7, val_main_v6, val_main_v17, val_main_v16, val_main_cst_2,
    val_main_v15, val_main_v14, val_main_v34, val_main_v32, val_main_v31, val_main_cst_7, val_main_v30,
    val_main_v28, val_main_v37, val_main_v29]
  unfold coord
  congr 3
  exact sitofp_bin (by omega)

/-- The x coordinate is that of the bin column. -/
theorem sampleX (n : Fin 5000) (i j : Fin 7) :
    val_main_v52 (F := Ideal) x1 (ix3 n i j) = coord (x1 (ix2 n 0)) (x1 (ix2 n 2)) j.val := by
  pointwise [val_main_v52, val_main_v51, val_main_v48, val_main_v46, val_main_v45, val_main_v43, val_main_v25,
    val_main_v24, val_main_cst_5, val_main_v20, val_main_v19, val_main_cst_3, val_main_v18, val_main_v5,
    val_main_v4, val_main_cst, val_main_v3, val_main_v2, val_main_v13, val_main_v12, val_main_cst_1,
    val_main_v11, val_main_v10, val_main_v44, val_main_v42, val_main_v41, val_main_cst_8, val_main_v40,
    val_main_v28, val_main_v47, val_main_v39]
  unfold coord
  congr 3
  exact sitofp_bin (by omega)

/-- The features as they are looked up: rows of 64 laid end to end. -/
theorem feature (ch : Fin 256) (r c : Fin 64) :
    val_main_v1 (F := Ideal) x0 (ix2 ch ⟨r.val * 64 + c.val, by omega⟩) = x0 (ix4 0 ch r c) := by
  pointwise [val_main_v1, val_main_v0]

variable {x1} (hu : InUnit x1)
include hu

/-- Each y coordinate is a real in [0, 1), -/
theorem unitY (n : Fin 5000) (i : Fin 7) :
    ∃ r : ℝ, coord (x1 (ix2 n 1)) (x1 (ix2 n 3)) i.val = (r : EReal) ∧ 0 ≤ r ∧ r < 1 :=
  coord_unit (hu n 1).1 (hu n 1).2 (hu n 3).1 (hu n 3).2 i.isLt
/-- and so is each x coordinate. -/
theorem unitX (n : Fin 5000) (j : Fin 7) :
    ∃ r : ℝ, coord (x1 (ix2 n 0)) (x1 (ix2 n 2)) j.val = (r : EReal) ∧ 0 ≤ r ∧ r < 1 :=
  coord_unit (hu n 0).1 (hu n 0).2 (hu n 2).1 (hu n 2).2 j.isLt

/-! ## Inside the image, at the first cell -/

/-- Every sample counts as inside the image. -/
theorem inside (n : Fin 5000) (i j : Fin 7) : val_main_v64 (F := Ideal) x1 (ix3 n i j) = 1 := by
  pointwise [val_main_v64, val_main_v63, val_main_v62, val_main_v61, val_main_cst_12, val_main_v60,
    val_main_v59, val_main_v58, val_main_cst_11, val_main_v57, val_main_v56, val_main_v55, val_main_cst_10,
    val_main_v54, val_main_v53, val_main_cst_9]
  rw [sampleY, sampleX]
  obtain ⟨y, ey, y0, y1⟩ := unitY hu n i
  obtain ⟨x, ex, x0, x1⟩ := unitX hu n j
  rw [ey, ex, decide_eq_true (neg_one_lt y0), decide_eq_true (lt_sixty_four y1), decide_eq_true (neg_one_lt x0),
    decide_eq_true (lt_sixty_four x1)]
  show (((1 : Nat) : ℝ) : EReal) = 1
  norm_num

/-- Clipping at 0 does not change the y coordinate, which is not negative. -/
theorem clipY (n : Fin 5000) (i j : Fin 7) :
    val_main_v65 (F := Ideal) x1 (ix3 n i j) = coord (x1 (ix2 n 1)) (x1 (ix2 n 3)) i.val := by
  pointwise [val_main_v65, val_main_call0_v1, val_main_call0_v0, val_main_cst_13]
  rw [sampleY]
  obtain ⟨r, e, r0, r1⟩ := unitY hu n i
  rw [e]
  exact clip_eq r0

/-- Nor does it change the x coordinate. -/
theorem clipX (n : Fin 5000) (i j : Fin 7) :
    val_main_v66 (F := Ideal) x1 (ix3 n i j) = coord (x1 (ix2 n 0)) (x1 (ix2 n 2)) j.val := by
  pointwise [val_main_v66, val_main_call1_v1, val_main_call1_v0, val_main_cst_14]
  rw [sampleX]
  obtain ⟨r, e, r0, r1⟩ := unitX hu n j
  rw [e]
  exact clip_eq r0

/-- The low row is row 0. -/
theorem lowRow (n : Fin 5000) (i j : Fin 7) : val_main_v68 (F := Ideal) x1 (ix3 n i j) = 0#32 := by
  pointwise [val_main_v68, val_main_v67]
  rw [clipY hu]
  obtain ⟨r, e, r0, r1⟩ := unitY hu n i
  rw [e]
  exact low_word r0 r1

/-- The low column is column 0. -/
theorem lowCol (n : Fin 5000) (i j : Fin 7) : val_main_v70 (F := Ideal) x1 (ix3 n i j) = 0#32 := by
  pointwise [val_main_v70, val_main_v69]
  rw [clipX hu]
  obtain ⟨r, e, r0, r1⟩ := unitX hu n j
  rw [e]
  exact low_word r0 r1

/-- It is below the last row, so it stays as it is, -/
theorem keptRow (n : Fin 5000) (i j : Fin 7) : val_main_v75 (F := Ideal) x1 (ix3 n i j) = 0#32 := by
  pointwise [val_main_v75, val_main_call2_v1, val_main_call2_v0, val_main_c_16, val_main_v72, val_main_v71,
    val_main_c]
  rw [lowRow hu]
  rfl

/-- and the high row is row 1. -/
theorem highRow (n : Fin 5000) (i j : Fin 7) : val_main_v79 (F := Ideal) x1 (ix3 n i j) = 1#32 := by
  pointwise [val_main_v79, val_main_v78, val_main_v77, val_main_c_18, val_main_v75, val_main_call2_v1,
    val_main_call2_v0, val_main_c_16, val_main_v72, val_main_v71, val_main_c, val_main_call4_v1,
    val_main_call4_v0, val_main_c_19]
  rw [lowRow hu]
  rfl

/-- The low column is below the last column, so it stays as it is, -/
theorem keptCol (n : Fin 5000) (i j : Fin 7) : val_main_v76 (F := Ideal) x1 (ix3 n i j) = 0#32 := by
  pointwise [val_main_v76, val_main_call3_v1, val_main_call3_v0, val_main_c_17, val_main_v74, val_main_v73,
    val_main_c_15]
  rw [lowCol hu]
  rfl

/-- and the high column is column 1. -/
theorem highCol (n : Fin 5000) (i j : Fin 7) : val_main_v82 (F := Ideal) x1 (ix3 n i j) = 1#32 := by
  pointwise [val_main_v82, val_main_v81, val_main_v80, val_main_c_20, val_main_v76, val_main_call3_v1,
    val_main_call3_v0, val_main_c_17, val_main_v74, val_main_v73, val_main_c_15, val_main_call5_v1,
    val_main_call5_v0, val_main_c_21]
  rw [lowCol hu]
  rfl

/-- The offset from the low row is the y coordinate. -/
theorem offY (n : Fin 5000) (i j : Fin 7) :
    val_main_v88 (F := Ideal) x1 (ix3 n i j) = coord (x1 (ix2 n 1)) (x1 (ix2 n 3)) i.val := by
  pointwise [val_main_v88, val_main_v87, val_main_v84, val_main_v83, val_main_v72, val_main_v71, val_main_c]
  rw [lowRow hu, clipY hu, keptRow hu]
  show coord (x1 (ix2 n 1)) (x1 (ix2 n 3)) i.val - (((0#32).toInt : ℝ) : EReal) = _
  rw [sitofp_zero, sub_zero]

/-- The offset from the low column is the x coordinate. -/
theorem offX (n : Fin 5000) (i j : Fin 7) :
    val_main_v90 (F := Ideal) x1 (ix3 n i j) = coord (x1 (ix2 n 0)) (x1 (ix2 n 2)) j.val := by
  pointwise [val_main_v90, val_main_v89, val_main_v86, val_main_v85, val_main_v74, val_main_v73, val_main_c_15]
  rw [lowCol hu, clipX hu, keptCol hu]
  show coord (x1 (ix2 n 0)) (x1 (ix2 n 2)) j.val - (((0#32).toInt : ℝ) : EReal) = _
  rw [sitofp_zero, sub_zero]

/-! ## The four weights -/

/-- The weight of the low row, low column. -/
theorem w00 (n : Fin 5000) (i j : Fin 7) : val_main_v96 (F := Ideal) x1 (ix3 n i j) =
    (1 - coord (x1 (ix2 n 1)) (x1 (ix2 n 3)) i.val) * (1 - coord (x1 (ix2 n 0)) (x1 (ix2 n 2)) j.val) := by
  pointwise [val_main_v96, val_main_v95, val_main_v94, val_main_v93, val_main_cst_23, val_main_v92,
    val_main_v91, val_main_cst_22]
  rw [offY hu, offX hu, inside hu, mul_one]

/-- The weight of the low row, high column. -/
theorem w01 (n : Fin 5000) (i j : Fin 7) : val_main_v98 (F := Ideal) x1 (ix3 n i j) =
    (1 - coord (x1 (ix2 n 1)) (x1 (ix2 n 3)) i.val) * coord (x1 (ix2 n 0)) (x1 (ix2 n 2)) j.val := by
  pointwise [val_main_v98, val_main_v97, val_main_v92, val_main_v91, val_main_cst_22]
  rw [offY hu, offX hu, inside hu, mul_one]

/-- The weight of the high row, low column. -/
theorem w10 (n : Fin 5000) (i j : Fin 7) : val_main_v100 (F := Ideal) x1 (ix3 n i j) =
    coord (x1 (ix2 n 1)) (x1 (ix2 n 3)) i.val * (1 - coord (x1 (ix2 n 0)) (x1 (ix2 n 2)) j.val) := by
  pointwise [val_main_v100, val_main_v99, val_main_v94, val_main_v93, val_main_cst_23]
  rw [offY hu, offX hu, inside hu, mul_one]

/-- The weight of the high row, high column. -/
theorem w11 (n : Fin 5000) (i j : Fin 7) : val_main_v102 (F := Ideal) x1 (ix3 n i j) =
    coord (x1 (ix2 n 1)) (x1 (ix2 n 3)) i.val * coord (x1 (ix2 n 0)) (x1 (ix2 n 2)) j.val := by
  pointwise [val_main_v102, val_main_v101]
  rw [offY hu, offX hu, inside hu, mul_one]

/-! ## The four lookups -/

/-- The feature at row 0, column 0. -/
theorem f00 (ch : Fin 256) (n : Fin 5000) (i j : Fin 7) :
    val_main_v115 (F := Ideal) x0 x1 (ix4 ch n i j) = x0 (ix4 0 ch 0 0) :=
  (Take.take_apply (val_main_v1 (F := Ideal) x0) (val_main_v105 (F := Ideal) x1) 0 (fun n i j => by
    pointwise [val_main_v105, val_main_v104, val_main_v103, val_main_c_24]
    rw [keptRow hu, keptCol hu]
    rfl) ch n i j).trans (feature x0 ch 0 0)

/-- The feature at row 0, column 1. -/
theorem f01 (ch : Fin 256) (n : Fin 5000) (i j : Fin 7) :
    val_main_v119 (F := Ideal) x0 x1 (ix4 ch n i j) = x0 (ix4 0 ch 0 1) :=
  (Take.take_apply (val_main_v1 (F := Ideal) x0) (val_main_v108 (F := Ideal) x1) 1 (fun n i j => by
    pointwise [val_main_v108, val_main_v107, val_main_v106, val_main_c_25]
    rw [keptRow hu, highCol hu]
    rfl) ch n i j).trans (feature x0 ch 0 1)

/-- The feature at row 1, column 0. -/
theorem f10 (ch : Fin 256) (n : Fin 5000) (i j : Fin 7) :
    val_main_v124 (F := Ideal) x0 x1 (ix4 ch n i j) = x0 (ix4 0 ch 1 0) :=
  (Take.take_apply (val_main_v1 (F := Ideal) x0) (val_main_v111 (F := Ideal) x1) 64 (fun n i j => by
    pointwise [val_main_v111, val_main_v110, val_main_v109, val_main_c_26]
    rw [highRow hu, keptCol hu]
    rfl) ch n i j).trans (feature x0 ch 1 0)

/-- The feature at row 1, column 1. -/
theorem f11 (ch : Fin 256) (n : Fin 5000) (i j : Fin 7) :
    val_main_v129 (F := Ideal) x0 x1 (ix4 ch n i j) = x0 (ix4 0 ch 1 1) :=
  (Take.take_apply (val_main_v1 (F := Ideal) x0) (val_main_v114 (F := Ideal) x1) 65 (fun n i j => by
    pointwise [val_main_v114, val_main_v113, val_main_v112, val_main_c_27]
    rw [highRow hu, highCol hu]
    rfl) ch n i j).trans (feature x0 ch 1 1)

/-! ## The result -/

/-- The reference's whole result is the answer: the weighted features added, transposed, and divided by the count of 1. -/
theorem result : val_main_v136 (F := Ideal) x0 x1 = answer x0 x1 := by
  funext q
  obtain ⟨n, ch, i, j, rfl⟩ : ∃ (n : Fin 5000) (ch : Fin 256) (i j : Fin 7), q = ix4 n ch i j :=
    ⟨q 0, q 1, q 2, q 3, eq_ix4 q⟩
  pointwise [val_main_v136, val_main_v135, val_main_cst_28, val_main_v134, val_main_v133, val_main_v132,
    val_main_v131, val_main_v130, val_main_v128, val_main_v127, val_main_v126, val_main_v125, val_main_v123,
    val_main_v122, val_main_v121, val_main_v120, val_main_v118, val_main_v117, val_main_v116]
  rw [f00 x0 hu, f01 x0 hu, f10 x0 hu, f11 x0 hu, w00 hu, w01 hu, w10 hu, w11 hu]
  rw [div_one]
  rfl

end Cert.ReferenceIdeal.Result

end
-- ==== Proof.UnitRois.lean ====
/-
  The precondition read at a coordinate: every coordinate of every roi lies in [0, 1).
-/
module

public import proofs.«01_k».proof.Proof.Gen.Pre_unit_rois
public import Idealize.ShloMosaic.Lib.Pointwise
public import Idealize.ShloMosaic.Lib.ReduceAll

@[expose] public section

noncomputable section

namespace Cert.Pre_unit_rois

open Idealize.ShloMosaic

/-- The result shape has one index. -/
instance : Subsingleton S_.Idx := ⟨fun _ _ => funext fun a => a.elim0⟩

/-- Where the precondition's bit is set, each coordinate is at least 0 and below 1. -/
theorem unit_of_fn [Facts] (feat : FVec Ideal S1x256x64x64 .f32) (rois : FVec Ideal S5000x4 .f32) (o : S_.Idx)
    (h : fn feat rois o = 1#1) (n : Fin 5000) (k : Fin 4) : (0 : EReal) ≤ rois (ix2 n k) ∧ rois (ix2 n k) < 1 := by
  have e := Host.reduce_andi_all _ _ _ _ o h (ix2 n k)
  revert e
  pointwise
  intro e
  obtain ⟨h0, h1⟩ := IntOp.andi_eq_one.mp e
  have bit : ∀ b : Bool, BitVec.ofBool b = 1#1 → b = true := by decide
  exact ⟨of_decide_eq_true (bit _ h0), of_decide_eq_true (bit _ h1)⟩

end Cert.Pre_unit_rois

end
-- ==== Proof.lean ====
/-
  The certificate of the 7 x 7 RoI align kernel. Its parts:
    Proof/Scalars.lean      the literals, the sampling coordinate of a bin, the bilinear mix, and the answer they give;
    Proof/KernelBlock.lean  what the kernel body leaves in one block of the result;
    Proof/KernelValue.lean  the blocks put together, the reshape afterwards, and the kernel's run;
    Proof/Take.lean         the reference's lookup of features by position;
    Proof/RefValue.lean     the reference's result at rois whose coordinates lie in [0, 1);
    Proof/UnitRois.lean     the precondition read at a coordinate.
  Here they are assembled into the claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unit_rois
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.UnitRois
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs without fault, keeps its arguments and ends with every semaphore at zero. -/
theorem frame_kernel : Cert.quiescent_Kernel := fun m g _ => Cert.Kernel.Gen.frame m g

/-- So does its reading on the extended reals. -/
theorem frame_kernelIdeal : Cert.quiescent_KernelIdeal := fun m g _ => Cert.KernelIdeal.Gen.frame m g

/-- In particular at rois in the unit range. -/
theorem frame_kernelIdeal_unit : Cert.quiescent_KernelIdeal_pre_unit_rois := fun m g _ => Cert.KernelIdeal.Gen.frame m g

/-- The reference runs without fault and keeps its arguments; it has no semaphore that could be left raised. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- In particular at rois in the unit range. -/
theorem frame_reference_unit : Cert.quiescent_ReferenceIdeal_pre_unit_rois := fun m g _ => frame_reference m g trivial

/-- No operation was rewritten between the kernel and its reading on the extended reals. -/
theorem kept : Cert.preserves_Kernel_KernelIdeal := trivial

/-- At rois whose coordinates lie in [0, 1), the kernel's result and the reference's are the same extended reals at every
    index: both are the bilinear mix `Cert.RoiAlign.answer` of the arguments, which agree. -/
theorem same : Cert.algebraic_KernelIdeal_ReferenceIdeal_pre_unit_rois := by
  intro m g m' g' hpre hagree
  refine ⟨fun c => Cert.RoiAlign.answer (m (c.tc.loc Cert.KernelIdeal.main_arg0)) (m (c.tc.loc Cert.KernelIdeal.main_arg1)),
    Cert.KernelIdeal.Result.run m g, ?_⟩
  refine (θ_run Cert.ReferenceIdeal.defs _ _).mono (fun r h c => ⟨(h c).1.trans ?_, (h c).2⟩)
    (Cert.ReferenceIdeal.Value.run (F := Ideal) m' g')
  have hu : Cert.ReferenceIdeal.Result.InUnit (m' (c.tc.loc Cert.ReferenceIdeal.main_arg1)) := by
    intro n k
    rw [(hagree c).2]
    exact Cert.Pre_unit_rois.unit_of_fn _ _ ix0 (congrFun (hpre c) ix0) n k
  refine (Cert.ReferenceIdeal.Read.val_main_v136_eq (StableHlo.launchContents m' c)).trans ?_
  refine (Cert.ReferenceIdeal.Result.result (m' (c.tc.loc Cert.ReferenceIdeal.main_arg0)) hu).trans ?_
  show Cert.RoiAlign.answer _ _ = Cert.RoiAlign.answer _ _
  rw [(hagree c).1, (hagree c).2]

/-- Every claim of this certificate. -/
theorem claim : Cert.Claim :=
  ⟨Cert.Kernel.Gen.facts, Cert.KernelIdeal.Gen.facts, Cert.ReferenceIdeal.Gen.facts, Cert.Pre_unit_rois.Gen.facts,
    frame_kernel, frame_kernelIdeal, frame_kernelIdeal_unit, frame_reference, frame_reference_unit, kept, same⟩

end Cert.Proof

end
